-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x3 : Shape := ⟨2, ![50000, 3]⟩
abbrev S50000 : Shape := ⟨1, ![50000]⟩
abbrev S3x32 : Shape := ⟨2, ![3, 32]⟩
abbrev S32x1x1x1 : Shape := ⟨4, ![32, 1, 1, 1]⟩
abbrev S32 : Shape := ⟨1, ![32]⟩
abbrev S25x1x2000 : Shape := ⟨3, ![25, 1, 2000]⟩
abbrev S3x128 : Shape := ⟨2, ![3, 128]⟩
abbrev S128 : Shape := ⟨1, ![128]⟩
abbrev S_ : Shape := ⟨0, ![]⟩
abbrev S8 : Shape := ⟨1, ![8]⟩
abbrev S8x1 : Shape := ⟨2, ![8, 1]⟩
abbrev S1x128 : Shape := ⟨2, ![1, 128]⟩
abbrev S8x128 : Shape := ⟨2, ![8, 128]⟩
abbrev S8x128x1 : Shape := ⟨3, ![8, 128, 1]⟩
abbrev S128x1024 : Shape := ⟨2, ![128, 1024]⟩
abbrev S1x1x2000 : Shape := ⟨3, ![1, 1, 2000]⟩
abbrev S2000x3 : Shape := ⟨2, ![2000, 3]⟩
abbrev S2000x128 : Shape := ⟨2, ![2000, 128]⟩
abbrev S2000 : Shape := ⟨1, ![2000]⟩
abbrev S2000x1 : Shape := ⟨2, ![2000, 1]⟩
abbrev S128x128 : Shape := ⟨2, ![128, 128]⟩
abbrev S128x1x32x32 : Shape := ⟨4, ![128, 1, 32, 32]⟩

abbrev nBuf : Space → Nat
  | .hbm => 46
  | .vmem => 7
  | .smem => 0
  | _ => 0

abbrev bufTy : (tb : Table) → Fin (tcTables nBuf tb) → BufTy
  | .hbm, ⟨0, _⟩ => ⟨S50000x3, .f32⟩
  | .hbm, ⟨1, _⟩ => ⟨S50000, .i32⟩
  | .hbm, ⟨2, _⟩ => ⟨S3x32, .f32⟩
  | .hbm, ⟨3, _⟩ => ⟨S32x1x1x1, .f32⟩
  | .hbm, ⟨4, _⟩ => ⟨S32, .f32⟩
  | .hbm, ⟨5, _⟩ => ⟨S25x1x2000, .i32⟩
  | .hbm, ⟨6, _⟩ => ⟨S3x128, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S8, .i32⟩
  | .hbm, ⟨27, _⟩ => ⟨S8x1, .i32⟩
  | .hbm, ⟨28, _⟩ => ⟨S_, .i32⟩
  | .hbm, ⟨29, _⟩ => ⟨S8x1, .i32⟩
  | .hbm, ⟨30, _⟩ => ⟨S8x1, .i32⟩
  | .hbm, ⟨31, _⟩ => ⟨S1x128, .i32⟩
  | .hbm, ⟨32, _⟩ => ⟨S8x128, .i32⟩
  | .hbm, ⟨33, _⟩ => ⟨S8x128, .i32⟩
  | .hbm, ⟨34, _⟩ => ⟨S8x128, .i32⟩
  | .hbm, ⟨35, _⟩ => ⟨S_, .i32⟩
  | .hbm, ⟨36, _⟩ => ⟨S8x128, .i32⟩
  | .hbm, ⟨37, _⟩ => ⟨S8x128, .i1⟩
  | .hbm, ⟨38, _⟩ => ⟨S_, .i32⟩
  | .hbm, ⟨39, _⟩ => ⟨S8x128, .i32⟩
  | .hbm, ⟨40, _⟩ => ⟨S8x128, .i32⟩
  | .hbm, ⟨41, _⟩ => ⟨S8x128, .i32⟩
  | .hbm, ⟨42, _⟩ => ⟨S8x128x1, .i32⟩
  | .hbm, ⟨43, _⟩ => ⟨S8x128, .f32⟩
  | .hbm, ⟨44, _⟩ => ⟨S128x1024, .f32⟩
  | .hbm, ⟨45, _⟩ => ⟨S128x1x32x32, .f32⟩
  | .local _ .vmem, ⟨0, _⟩ => ⟨S1x1x2000, .i32⟩
  | .local _ .vmem, ⟨1, _⟩ => ⟨S1x1x2000, .i32⟩
  | .local _ .vmem, ⟨2, _⟩ => ⟨S2000x3, .f32⟩
  | .local _ .vmem, ⟨3, _⟩ => ⟨S2000x3, .f32⟩
  | .local _ .vmem, ⟨4, _⟩ => ⟨S3x128, .f32⟩
  | .local _ .vmem, ⟨5, _⟩ => ⟨S8x128, .f32⟩
  | .local _ .vmem, ⟨6, _⟩ => ⟨S128x1024, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S50000x3 : Shape := ⟨2, ![50000, 3]⟩
abbrev S50000 : Shape := ⟨1, ![50000]⟩
abbrev S3x32 : Shape := ⟨2, ![3, 32]⟩
abbrev S32x1x1x1 : Shape := ⟨4, ![32, 1, 1, 1]⟩
abbrev S50000x32 : Shape := ⟨2, ![50000, 32]⟩
abbrev S1x1x50000x32 : Shape := ⟨4, ![1, 1, 50000, 32]⟩
abbrev S32x1x50000x32 : Shape := ⟨4, ![32, 1, 50000, 32]⟩
abbrev S_ : Shape := ⟨0, ![]⟩
abbrev S1x50000x32x32 : Shape := ⟨4, ![1, 50000, 32, 32]⟩
abbrev S50000x1x32x32 : Shape := ⟨4, ![50000, 1, 32, 32]⟩
abbrev S128x1x32x32 : Shape := ⟨4, ![128, 1, 32, 32]⟩
abbrev S50000x1 : Shape := ⟨2, ![50000, 1]⟩

abbrev nBuf : Space → Nat
  | .hbm => 26
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000, .i32⟩
  | .hbm, ⟨2, _⟩ => ⟨S3x32, .f32⟩
  | .hbm, ⟨3, _⟩ => ⟨S32x1x1x1, .f32⟩
  | .hbm, ⟨4, _⟩ => ⟨S50000x32, .f32⟩
  | .hbm, ⟨5, _⟩ => ⟨S1x1x50000x32, .f32⟩
  | .hbm, ⟨6, _⟩ => ⟨S32x1x50000x32, .f32⟩
  | .hbm, ⟨7, _⟩ => ⟨S32x1x50000x32, .f32⟩
  | .hbm, ⟨8, _⟩ => ⟨S32x1x50000x32, .f32⟩
  | .hbm, ⟨9, _⟩ => ⟨S_, .f32⟩
  | .hbm, ⟨10, _⟩ => ⟨S32x1x50000x32, .f32⟩
  | .hbm, ⟨11, _⟩ => ⟨S32x1x50000x32, .f32⟩
  | .hbm, ⟨12, _⟩ => ⟨S32x1x50000x32, .f32⟩
  | .hbm, ⟨13, _⟩ => ⟨S32x1x50000x32, .f32⟩
  | .hbm, ⟨14, _⟩ => ⟨S_, .f32⟩
  | .hbm, ⟨15, _⟩ => ⟨S32x1x50000x32, .f32⟩
  | .hbm, ⟨16, _⟩ => ⟨S32x1x50000x32, .f32⟩
  | .hbm, ⟨17, _⟩ => ⟨S_, .f32⟩
  | .hbm, ⟨18, _⟩ => ⟨S32x1x50000x32, .f32⟩
  | .hbm, ⟨19, _⟩ => ⟨S32x1x50000x32, .f32⟩
  | .hbm, ⟨20, _⟩ => ⟨S1x50000x32x32, .f32⟩
  | .hbm, ⟨21, _⟩ => ⟨S50000x1x32x32, .f32⟩
  | .hbm, ⟨22, _⟩ => ⟨S_, .f32⟩
  | .hbm, ⟨23, _⟩ => ⟨S128x1x32x32, .f32⟩
  | .hbm, ⟨24, _⟩ => ⟨S50000x1, .i32⟩
  | .hbm, ⟨25, _⟩ => ⟨S128x1x32x32, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Spec.lean ====
/- The mathematics both programs compute, over the extended reals: a steep bump of the difference between a level and a
   node's height, the transform that sums the bumps of each cloud's nodes, and the share of it that one block of two
   thousand nodes contributes. -/
module

public import proofs.«01_k».proof.KernelIdeal
public import Idealize.ShloMosaic.PureOps.Ideal
public import Idealize.ShloMosaic.Lib.ValueIdx

@[expose] public section

noncomputable section

namespace Cert.Ect

open Idealize.ShloMosaic Idealize.ShloMosaic.ValueIdx Cert.KernelIdeal

/-- The bump at level `l` of a node at height `h`: the logistic function of a hundred times `l - h`. -/
def bump (l h : EReal) : EReal := Ideal.logistic (Ideal.ofBits .f32 0x42C80000#32 * (l - h))

/-- The height of node `n` in direction `t`: the inner product of its three coordinates with the direction. -/
def height {N T : Nat} (x : (⟨2, ![N, 3]⟩ : Shape).Idx → EReal) (v : (⟨2, ![3, T]⟩ : Shape).Idx → EReal) (n : Fin N) (t : Fin T) : EReal :=
  ∑ k : Fin 3, x (ix2 n k) * v (ix2 k t)

/-- The transform: entry `(b, 0, s, t)` sums, over the nodes whose cloud number is `b`, the bump at level `s` of the
    node's height in direction `t`. A node whose cloud number is none of the 128 counts nowhere. -/
def ect (x : S50000x3.Idx → EReal) (seg : S50000.Idx → BitVec 32) (v : S3x32.Idx → EReal) (lin : S32x1x1x1.Idx → EReal)
    (b : Fin 128) (s t : Fin 32) : EReal :=
  ∑ n : Fin 50000, if seg (ix1 n) = BitVec.ofNat 32 b.val then bump (lin (ix4 s 0 0 0)) (height x v n t) else 0

/-- What one block of 2000 nodes adds to entry `(b, q)` of the flat [128, 1024] result: the bumps of the block's nodes of
    cloud `b`, the level read at row `q / 128`, lane `q % 128` of `l` and the direction at lane `q % 128` of `v`. -/
def share (seg : S1x1x2000.Idx → BitVec 32) (x : S2000x3.Idx → EReal) (v : S3x128.Idx → EReal) (l : S8x128.Idx → EReal)
    (b : Fin 128) (q : Fin 1024) : EReal :=
  ∑ p : Fin 2000, if seg (ix3 0 0 p) = BitVec.ofNat 32 b.val then
    bump (l (ix2 ⟨q.val / 128, by omega⟩ ⟨q.val % 128, by omega⟩)) (height x v p ⟨q.val % 128, by omega⟩) else 0

end Cert.Ect

end
-- ==== Proof.Payload.lean ====
/- What the kernel body's stored values are at an index: the node heights, the one-hot rows of the cloud numbers, and the
   group update — the old 128 by 128 tile plus the one-hot matrix, transposed, times the group's bumps. -/
module

public import proofs.«01_k».proof.Proof.Spec
public import proofs.«01_k».proof.Proof.Gen.KernelIdeal.Frame
public import Idealize.ShloMosaic.Lib.Pipeline.Value
public import Idealize.ShloMosaic.Lib.IdealHost

@[expose] public section

noncomputable section

namespace Cert.KernelIdeal.Value

open Cert.KernelIdeal Cert.KernelIdeal.Gen Cert.Ect
open Idealize.ShloMosaic Idealize.ShloMosaic.TcCoe Idealize.SL.Sem Idealize.ShloMosaic.ValueIdx

/-- The heights of a block's nodes, in the 128 lanes' directions. -/
theorem pay2_apply (x : Vec Ideal S2000x3 .f32) (v : Vec Ideal S3x128 .f32) (p : Fin 2000) (c : Fin 128) :
    k0_pay2 x v (ix2 p c) = height x v p c := by
  unfold k0_pay2
  simp only [shapeCast_self]
  show Ideal.matmul dot_S2000x3_S3x128_S2000x128_1_0_0_1_n_n x v (constant (F := Ideal) S2000x128 .f32 0x00000000#32) (ix2 p c) = _
  unfold Ideal.matmul height
  rw [← Equiv.sum_comp (contrEquiv1 dot_S2000x3_S3x128_S2000x128_1_0_0_1_n_n 3 rfl rfl).symm]
  rw [show (constant S2000x128 .f32 0x00000000#32 : FVec Ideal S2000x128 .f32) (ix2 p c) = 0 from Ideal.ofBits_zero_f32, zero_add]
  refine Finset.sum_congr rfl fun k _ => ?_
  have hk := contrEquiv1_symm_val dot_S2000x3_S3x128_S2000x128_1_0_0_1_n_n 3 rfl rfl k
  congr 1
  · refine congrArg x (funext fun a => Fin.ext ?_)
    match a with
    | ⟨0, _⟩ => rfl
    | ⟨1, _⟩ => exact hk
  · refine congrArg v (funext fun a => Fin.ext ?_)
    match a with
    | ⟨0, _⟩ => exact hk
    | ⟨1, _⟩ => rfl

/-- The one-hot row of node `p`: 1 in the lane its cloud number names, 0 elsewhere. -/
theorem pay3_apply (seg : Vec Ideal S1x1x2000 .i32) (p : Fin 2000) (b : Fin 128) :
    (k0_pay3 seg : FVec Ideal S2000x128 .f32) (ix2 p b) = if seg (ix3 0 0 p) = BitVec.ofNat 32 b.val then (1 : EReal) else 0 := by
  unfold k0_pay3
  dsimp only
  rw [sitofp_apply, extui_apply]
  show FloatOps.sitofp .f32 (BitVec.setWidth 32 (IntOp.cmpi .eq (broadcastTo S2000x128 _ broadcasts_S2000x1_S2000x128 (ix2 p b))
    (iota .tc S2000x128 32 [1] iota_S2000x128_d1_w32 (ix2 p b)))) = _
  rw [iota_single_apply,
    broadcastTo_apply _ _ (ix2 p b) (ix2 p 0) (fun a => by match a with | ⟨0, _⟩ => rfl | ⟨1, _⟩ => rfl),
    shapeCast_apply _ shapeCasts_S2000_S2000x1 (ix2 p 0) (ix1 p) (by
      rw [Shape.rowMajor_val_one, Shape.rowMajor_val_two]; show p.val = p.val * 1 + 0; omega),
    shapeCast_apply _ shapeCasts_S1x1x2000_S2000 (ix1 p) (ix3 0 0 p) (by
      rw [Shape.rowMajor_val_one, Shape.rowMajor_val_three]; show (0 * 1 + 0) * 2000 + p.val = p.val; omega)]
  show FloatOps.sitofp .f32 (BitVec.setWidth 32 (IntOp.cmpi .eq (seg (ix3 0 0 p)) (BitVec.ofNat 32 b.val))) = _
  by_cases h : seg (ix3 0 0 p) = BitVec.ofNat 32 b.val
  · rw [if_pos h, h]
    show Scalar.sitofp (F := Ideal) .f32 _ = _
    rw [Ideal.scalar_sitofp_def]
    simp [IntOp.cmpi]
  · rw [if_neg h]
    show Scalar.sitofp (F := Ideal) .f32 _ = _
    rw [Ideal.scalar_sitofp_def]
    rw [show IntOp.cmpi .eq (seg (ix3 0 0 p)) (BitVec.ofNat 32 b.val) = 0#1 from by
      unfold IntOp.cmpi; simp only [beq_eq_false_iff_ne.mpr h]; rfl]
    simp

/-- The update of one group's tile: the old tile plus the one-hot matrix, transposed, times the bumps of the heights at the
    group's row of levels. -/
def tile (nh oh : FVec Ideal S2000x128 .f32) (l : Vec Ideal S1x128 .f32) (old : Vec Ideal S128x128 .f32) : FVec Ideal S128x128 .f32 :=
  addf old (matmul dot_S2000x128_S2000x128_S128x128_0_0_1_1_n_n none oh
    (logistic (mulf (broadcast S2000x128 (Scalar.ofBits .f32 0x42C80000#32)) (subf (broadcastTo S2000x128 l broadcasts_S1x128_S2000x128) nh)))
    (constant S128x128 .f32 0x00000000#32))

/-- The update at an entry. -/
theorem tile_apply (nh oh : FVec Ideal S2000x128 .f32) (l : Vec Ideal S1x128 .f32) (old : Vec Ideal S128x128 .f32) (b c : Fin 128) :
    tile nh oh l old (ix2 b c) = (old (ix2 b c) : EReal) + ∑ p : Fin 2000, (oh (ix2 p b) : EReal) * bump (l (ix2 0 c)) (nh (ix2 p c)) := by
  unfold tile
  show (old (ix2 b c) : EReal) + Ideal.matmul dot_S2000x128_S2000x128_S128x128_0_0_1_1_n_n oh _ (constant (F := Ideal) S128x128 .f32 0x00000000#32) (ix2 b c) = _
  unfold Ideal.matmul
  rw [← Equiv.sum_comp (contrEquiv1 dot_S2000x128_S2000x128_S128x128_0_0_1_1_n_n 2000 rfl rfl).symm]
  rw [show (constant S128x128 .f32 0x00000000#32 : FVec Ideal S128x128 .f32) (ix2 b c) = 0 from Ideal.ofBits_zero_f32, zero_add]
  refine congrArg (_ + ·) (Finset.sum_congr rfl fun p _ => ?_)
  have hk := contrEquiv1_symm_val dot_S2000x128_S2000x128_S128x128_0_0_1_1_n_n 2000 rfl rfl p
  have el : dot_S2000x128_S2000x128_S128x128_0_0_1_1_n_n.lhsIdx (ix2 b c)
      ((contrEquiv1 dot_S2000x128_S2000x128_S128x128_0_0_1_1_n_n 2000 rfl rfl).symm p) = ix2 p b := by
    funext a; apply Fin.ext
    match a with
    | ⟨0, _⟩ => exact hk
    | ⟨1, _⟩ => rfl
  have er : dot_S2000x128_S2000x128_S128x128_0_0_1_1_n_n.rhsIdx (ix2 b c)
      ((contrEquiv1 dot_S2000x128_S2000x128_S128x128_0_0_1_1_n_n 2000 rfl rfl).symm p) = ix2 p c := by
    funext a; apply Fin.ext
    match a with
    | ⟨0, _⟩ => exact hk
    | ⟨1, _⟩ => rfl
  rw [el, er]
  refine congrArg (_ * ·) ?_
  show Ideal.logistic (Ideal.ofBits .f32 0x42C80000#32 * (broadcastTo S2000x128 l broadcasts_S1x128_S2000x128 (ix2 p c) - nh (ix2 p c))) = _
  rw [broadcastTo_apply _ _ (ix2 p c) (ix2 0 c) (fun a => by match a with | ⟨0, _⟩ => rfl | ⟨1, _⟩ => rfl)]
  rfl

/-- Over a block's own heights and one-hot rows, the update adds the block's share of the group: the tile's lane `c` is
    column `128 g + c`, and the row of levels is row `g`. -/
theorem tile_share (seg : Vec Ideal S1x1x2000 .i32) (x : Vec Ideal S2000x3 .f32) (v : Vec Ideal S3x128 .f32) (l8 : Vec Ideal S8x128 .f32)
    (l : Vec Ideal S1x128 .f32) (old : Vec Ideal S128x128 .f32) (g : Fin 8) (b c : Fin 128) (hl : l (ix2 0 c) = l8 (ix2 g c))
    (q : Fin 1024) (hq : q.val = 128 * g.val + c.val) :
    tile (k0_pay2 x v) (k0_pay3 seg) l old (ix2 b c) = (old (ix2 b c) : EReal) + share seg x v l8 b q := by
  rw [tile_apply]
  unfold share
  refine congrArg (_ + ·) (Finset.sum_congr rfl fun p _ => ?_)
  have e1 : (⟨q.val / 128, by omega⟩ : Fin 8) = g := Fin.ext (by show q.val / 128 = g.val; omega)
  have e2 : (⟨q.val % 128, by omega⟩ : Fin 128) = c := Fin.ext (by show q.val % 128 = c.val; omega)
  rw [pay3_apply, pay2_apply, hl, e1, e2]
  split
  · exact one_mul _
  · exact zero_mul _

/-! The eight groups' stored values are all that update. -/

theorem pay5_eq (x : Vec Ideal S2000x3 .f32) (v : Vec Ideal S3x128 .f32) (seg : Vec Ideal S1x1x2000 .i32) (l : Vec Ideal S1x128 .f32) (old : Vec Ideal S128x128 .f32) :
    k0_pay5 x v seg l old = tile (k0_pay2 x v) (k0_pay3 seg) l old := by
  unfold k0_pay5 tile; simp only [shapeCast_self]

theorem pay7_eq (x : Vec Ideal S2000x3 .f32) (v : Vec Ideal S3x128 .f32) (seg : Vec Ideal S1x1x2000 .i32) (l : Vec Ideal S1x128 .f32) (old : Vec Ideal S128x128 .f32) :
    k0_pay7 (k0_pay6 x v seg l) old = tile (k0_pay2 x v) (k0_pay3 seg) l old := by
  unfold k0_pay7 k0_pay6 tile; simp only [shapeCast_self]

theorem pay8_eq (nh oh : FVec Ideal S2000x128 .f32) (l : Vec Ideal S1x128 .f32) (old : Vec Ideal S128x128 .f32) :
    k0_pay8 nh oh l old = tile nh oh l old := by
  unfold k0_pay8 tile; simp only [shapeCast_self]

theorem pay9_eq (nh oh : FVec Ideal S2000x128 .f32) (l : Vec Ideal S1x128 .f32) (old : Vec Ideal S128x128 .f32) :
    k0_pay9 nh oh l old = tile nh oh l old := by
  unfold k0_pay9 tile; simp only [shapeCast_self]

theorem pay11_eq (nh oh : FVec Ideal S2000x128 .f32) (l : Vec Ideal S1x128 .f32) (old : Vec Ideal S128x128 .f32) :
    k0_pay11 oh (k0_pay10 nh l) old = tile nh oh l old := by
  unfold k0_pay11 k0_pay10 tile; simp only [shapeCast_self]

theorem pay12_eq (nh oh : FVec Ideal S2000x128 .f32) (l : Vec Ideal S1x128 .f32) (old : Vec Ideal S128x128 .f32) :
    k0_pay12 nh oh l old = tile nh oh l old := by
  unfold k0_pay12 tile; simp only [shapeCast_self]

theorem pay13_eq (nh oh : FVec Ideal S2000x128 .f32) (l : Vec Ideal S1x128 .f32) (old : Vec Ideal S128x128 .f32) :
    k0_pay13 nh oh l old = tile nh oh l old := by
  unfold k0_pay13 tile; simp only [shapeCast_self]

theorem pay1_eq (nh oh : FVec Ideal S2000x128 .f32) (l : Vec Ideal S1x128 .f32) (old : Vec Ideal S128x128 .f32) :
    k0_pay1 oh (k0_pay14 nh l) old = tile nh oh l old := by
  unfold k0_pay1 k0_pay14 tile; simp only [shapeCast_self]

end Cert.KernelIdeal.Value

end
-- ==== Proof.Block.lean ====
/- What one run of the kernel body leaves in the output buffer: the buffer's old contents (zero at the first point) plus the
   block's share of every entry. Eight 128 by 128 tiles are stored, side by side; each is read before it is stored. -/
module

public import proofs.«01_k».proof.Proof.Payload
public import Idealize.ShloMosaic.Lib.Pipeline.ReadBack

@[expose] public section

noncomputable section

namespace Cert.KernelIdeal.Value

open Cert.KernelIdeal Cert.KernelIdeal.Gen Cert.Ect
open Idealize.ShloMosaic Idealize.ShloMosaic.TcCoe Idealize.SL.Sem Idealize.ShloMosaic.ValueIdx

/-- Zero offsets, as the loads of a whole buffer spell them. -/
theorem hz2 : (![0, 0] : Fin 2 → Nat) = fun _ => 0 := funext (by decide)
theorem hz3 : (![0, 0, 0] : Fin 3 → Nat) = fun _ => 0 := funext (by decide)

/-- The contents `X` with one block's share added at every entry. -/
def plus (X : Vec Ideal S128x1024 .f32) (x0 : Vec Ideal S1x1x2000 .i32) (x1 : Vec Ideal S2000x3 .f32) (x2 : Vec Ideal S3x128 .f32)
    (x3 : Vec Ideal S8x128 .f32) : Vec Ideal S128x1024 .f32 :=
  fun j => (X j : EReal) + share x0 x1 x2 x3 (j 0) (j 1)

/-- Group `g`'s update of the tile at column offset `128 g` of `X` is that tile of `plus X`. -/
theorem tile_piece (X : Vec Ideal S128x1024 .f32) (x0 : Vec Ideal S1x1x2000 .i32) (x1 : Vec Ideal S2000x3 .f32) (x2 : Vec Ideal S3x128 .f32)
    (x3 : Vec Ideal S8x128 .f32) (g : Fin 8) (o r : Nat) (ho : o = 128 * g.val) (hr : r = g.val)
    (inb : ∀ a, (![0, o] : Fin 2 → Nat) a + S128x128.size a ≤ S128x1024.size a) (inl : ∀ a, (![r, 0] : Fin 2 → Nat) a + S1x128.size a ≤ S8x128.size a)
    (x : S128x128.Idx) :
    tile (k0_pay2 x1 x2) (k0_pay3 x0) (View.ld x3 (Rect.unit ![r, 0] S1x128.size inl)) (View.ld X (Rect.unit ![0, o] S128x128.size inb)) x
      = plus X x0 x1 x2 x3 ((Rect.unit (s := S128x1024) ![0, o] S128x128.size inb).emb x) := by
  obtain ⟨b, c, rfl⟩ : ∃ b c, x = ix2 b c := ⟨x 0, x 1, eq_ix2 x⟩
  subst ho hr
  have e : (Rect.unit (s := S128x1024) ![0, 128 * g.val] S128x128.size inb).emb (ix2 b c) = ix2 b ⟨128 * g.val + c.val, by omega⟩ := by
    funext a; apply Fin.ext
    match a with
    | ⟨0, _⟩ => show 0 + 1 * b.val = b.val; omega
    | ⟨1, _⟩ => show 128 * g.val + 1 * c.val = 128 * g.val + c.val; omega
  rw [tile_share x0 x1 x2 x3 _ _ g b c _ ⟨128 * g.val + c.val, by omega⟩ rfl, e]
  · unfold plus
    refine congrArg (· + _) ?_
    exact congrArg X e
  · refine congrArg x3 (funext fun a => Fin.ext ?_)
    match a with
    | ⟨0, _⟩ => show g.val + 1 * 0 = g.val; omega
    | ⟨1, _⟩ => show 0 + 1 * c.val = c.val; omega

/-- The rectangle of the 128 columns from column `o` on. -/
abbrev cols (o : Nat) (inb : ∀ a, (![0, o] : Fin 2 → Nat) a + S128x128.size a ≤ S128x1024.size a) : Rect S128x1024 := Rect.unit ![0, o] S128x128.size inb

/-- Eight side-by-side tiles that are the tiles of `G`, stored over anything, leave `G`. -/
theorem canon_tiles (G : Vec Ideal S128x1024 .f32) (w0 w1 w2 w3 w4 w5 w6 w7 : S128x128.Idx → Elt Ideal .f32) (i0 i1 i2 i3 i4 i5 i6 i7)
    (L' : List (View.Piece (Elt Ideal) S128x1024 .f32))
    (h7 : ∀ x, w7 x = G ((cols 896 i7).emb x)) (h6 : ∀ x, w6 x = G ((cols 768 i6).emb x)) (h5 : ∀ x, w5 x = G ((cols 640 i5).emb x))
    (h4 : ∀ x, w4 x = G ((cols 512 i4).emb x)) (h3 : ∀ x, w3 x = G ((cols 384 i3).emb x)) (h2 : ∀ x, w2 x = G ((cols 256 i2).emb x))
    (h1 : ∀ x, w1 x = G ((cols 128 i1).emb x)) (h0 : ∀ x, w0 x = G ((cols 0 i0).emb x)) :
    View.canon ((⟨cols 896 i7, w7⟩ : View.Piece (Elt Ideal) S128x1024 .f32) :: ⟨cols 768 i6, w6⟩ :: ⟨cols 640 i5, w5⟩ :: ⟨cols 512 i4, w4⟩
      :: ⟨cols 384 i3, w3⟩ :: ⟨cols 256 i2, w2⟩ :: ⟨cols 128 i1, w1⟩ :: ⟨cols 0 i0, w0⟩ :: L') = G := by
  funext y
  refine View.canon_append_of_piecesOf G L' [⟨cols 896 i7, w7⟩, ⟨cols 768 i6, w6⟩, ⟨cols 640 i5, w5⟩, ⟨cols 512 i4, w4⟩,
    ⟨cols 384 i3, w3⟩, ⟨cols 256 i2, w2⟩, ⟨cols 128 i1, w1⟩, ⟨cols 0 i0, w0⟩] ⟨h7, h6, h5, h4, h3, h2, h1, h0, trivial⟩ y ?_
  exact View.cover_of_tiledL (s := S128x1024) _ S128x128.size (by sl_kernel_rfl) y

/-- A read of the columns from `o'` on does not see a store to the columns from `o` on, when those end before `o'`. -/
theorem read_skip (v : View sig .tc .vmem S128x1024 .f32) (o o' : Nat) (inb inb') (w : S128x128.Idx → Elt Ideal .f32)
    (L : List (View.Piece (Elt Ideal) S128x1024 .f32)) (h : o + 128 ≤ o') :
    v.readCov ((⟨Rect.unit ![0, o] (no_index S128x128.size) inb, w⟩ : View.Piece (Elt Ideal) S128x1024 .f32) :: L)
        (Rect.unit (s := S128x1024) ![0, o'] (no_index S128x128.size) inb').toLoadRect
      = v.readCov L (Rect.unit (s := S128x1024) ![0, o'] S128x128.size inb').toLoadRect := by
  refine View.readCov_skip v (cols o inb) w L _ ?_
  unfold LoadRect.disj
  rw [decide_eq_true_eq]
  refine ⟨1, Or.inr (Or.inr (Or.inl ?_))⟩
  show o + 1 * 127 < o'
  omega

/-- A read of any rectangle after a store of the whole buffer reads what was stored. -/
theorem read_fill (v : View sig .tc .vmem S128x1024 .f32) (inb) (Z : S128x1024.Idx → Elt Ideal .f32) (L : List (View.Piece (Elt Ideal) S128x1024 .f32))
    (r : Rect S128x1024) :
    v.readCov ((⟨Rect.unit ![0, 0] (no_index S128x1024.size) inb, Z⟩ : View.Piece (Elt Ideal) S128x1024 .f32) :: L) r.toLoadRect = View.ld Z r :=
  View.readCov_fill v inb Z L r (by decide)

/-- At a later point the body leaves the buffer's old contents plus the block's share. -/
theorem out_B (c : Dev nD) (i : grid0.Coords) (arg1 : Memref sig .tc .vmem S1x1x2000 .i32) (harg1 : arg1.IsWhole) (arg2 : Memref sig .tc .vmem S2000x3 .f32) (harg2 : arg2.IsWhole)
    (arg3 : Memref sig .tc .vmem S3x128 .f32) (harg3 : arg3.IsWhole) (arg4 : Memref sig .tc .vmem S8x128 .f32) (harg4 : arg4.IsWhole)
    (arg5 : Memref sig .tc .vmem S128x1024 .f32) (harg5 : arg5.IsWhole) (hc0 : ¬cond0_0 i)
    (x0 : Vec Ideal S1x1x2000 .i32) (x1 : Vec Ideal S2000x3 .f32) (x2 : Vec Ideal S3x128 .f32) (x3 : Vec Ideal S8x128 .f32) (xo : Vec Ideal S128x1024 .f32) :
    out0_B_4 c i arg1 harg1 arg2 harg2 arg3 harg3 arg4 harg4 arg5 harg5 hc0 x0 x1 x2 x3 xo = plus xo x0 x1 x2 x3 := by
  unfold out0_B_4
  rw [View.read_writes_eq_canon _ _ _ (cover0_B_4 c i arg1 harg1 arg2 harg2 arg3 harg3 arg4 harg4 arg5 harg5 hc0 x0 x1 x2 x3 xo)]
  unfold kernelRun0_B
  dsimp only
  sl_unfold_words
  simp only [View.readAt_eq_ld, harg1.read_unread, harg2.read_unread, harg3.read_unread, harg4.read_unread, harg5.read_unread,
    View.ld_unit_zero (S := S1x1x2000) hz3, View.ld_unit_zero (S := S2000x3) hz2, View.ld_unit_zero (S := S3x128) hz2,
    pay5_eq, pay7_eq, pay8_eq, pay9_eq, pay11_eq, pay12_eq, pay13_eq, pay1_eq]
  exact canon_tiles _ _ _ _ _ _ _ _ _ _ _ _ _ _ _ _ _ _
    (tile_piece xo x0 x1 x2 x3 7 _ _ rfl rfl _ _) (tile_piece xo x0 x1 x2 x3 6 _ _ rfl rfl _ _) (tile_piece xo x0 x1 x2 x3 5 _ _ rfl rfl _ _)
    (tile_piece xo x0 x1 x2 x3 4 _ _ rfl rfl _ _) (tile_piece xo x0 x1 x2 x3 3 _ _ rfl rfl _ _) (tile_piece xo x0 x1 x2 x3 2 _ _ rfl rfl _ _)
    (tile_piece xo x0 x1 x2 x3 1 _ _ rfl rfl _ _) (tile_piece xo x0 x1 x2 x3 0 _ _ rfl rfl _ _)

/-- At the first point, where the body clears the buffer, it leaves the block's share over zero. -/
theorem out_A (c : Dev nD) (i : grid0.Coords) (arg1 : Memref sig .tc .vmem S1x1x2000 .i32) (harg1 : arg1.IsWhole) (arg2 : Memref sig .tc .vmem S2000x3 .f32) (harg2 : arg2.IsWhole)
    (arg3 : Memref sig .tc .vmem S3x128 .f32) (harg3 : arg3.IsWhole) (arg4 : Memref sig .tc .vmem S8x128 .f32) (harg4 : arg4.IsWhole)
    (arg5 : Memref sig .tc .vmem S128x1024 .f32) (harg5 : arg5.IsWhole) (hc0 : cond0_0 i)
    (x0 : Vec Ideal S1x1x2000 .i32) (x1 : Vec Ideal S2000x3 .f32) (x2 : Vec Ideal S3x128 .f32) (x3 : Vec Ideal S8x128 .f32) :
    out0_A_4 c i arg1 harg1 arg2 harg2 arg3 harg3 arg4 harg4 arg5 harg5 hc0 x0 x1 x2 x3 = plus (fun _ => (0 : EReal)) x0 x1 x2 x3 := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  have hzero : (k0_pay4 : FVec Ideal S128x1024 .f32) = fun _ => (0 : EReal) := by
    unfold k0_pay4; simp only [shapeCast_self]; exact funext fun _ => Ideal.ofBits_zero_f32
  simp only [View.readAt_eq_ld, harg1.read_unread, harg2.read_unread, harg3.read_unread, harg4.read_unread,
    View.ld_unit_zero (S := S1x1x2000) hz3, View.ld_unit_zero (S := S2000x3) hz2, View.ld_unit_zero (S := S3x128) hz2,
    pay5_eq, pay7_eq, pay8_eq, pay9_eq, pay11_eq, pay12_eq, pay13_eq, pay1_eq, read_skip, Nat.reduceAdd, Nat.reduceLeDiff, read_fill, hzero]
  exact canon_tiles _ _ _ _ _ _ _ _ _ _ _ _ _ _ _ _ _ _
    (tile_piece _ x0 x1 x2 x3 7 _ _ rfl rfl _ _) (tile_piece _ x0 x1 x2 x3 6 _ _ rfl rfl _ _) (tile_piece _ x0 x1 x2 x3 5 _ _ rfl rfl _ _)
    (tile_piece _ x0 x1 x2 x3 4 _ _ rfl rfl _ _) (tile_piece _ x0 x1 x2 x3 3 _ _ rfl rfl _ _) (tile_piece _ x0 x1 x2 x3 2 _ _ rfl rfl _ _)
    (tile_piece _ x0 x1 x2 x3 1 _ _ rfl rfl _ _) (tile_piece _ x0 x1 x2 x3 0 _ _ rfl rfl _ _)

end Cert.KernelIdeal.Value

end
-- ==== Proof.Host.lean ====
/- What the operations before the kernel call leave for it: the cloud numbers cut into 25 rows, the directions repeated
   four times side by side, and the levels gathered so that row `g`, lane `l` holds level `4 g + l / 32`. -/
module

public import proofs.«01_k».proof.Proof.Spec
public import proofs.«01_k».proof.Proof.Gen.KernelIdeal.Frame
public import Idealize.ShloMosaic.Lib.Pipeline.Value
public import Idealize.ShloMosaic.Lib.ValueIdx

@[expose] public section

noncomputable section

namespace Cert.KernelIdeal.Value

open Cert.KernelIdeal Cert.KernelIdeal.Gen Cert.Ect
open Idealize.ShloMosaic Idealize.ShloMosaic.TcCoe Idealize.SL.Sem Idealize.ShloMosaic.ValueIdx

/-- The lane numbers 0 … 127 divided by 32, rounding down, as the host computes it. -/
def quots : IVec S128 32 :=
  let n : IVec S128 32 := iotaInDim S128 32 0
  let d : IVec S128 32 := broadcastInDim S128 ![] bcast_S_S128 (constantI S_ 32 32#32)
  let q : IVec S128 32 := Host.divsi n d
  select (andi (cmpi .ne (signi n) (broadcastInDim S128 ![] bcast_S_S128 (signi (constantI S_ 32 32#32))))
    (cmpi .ne (Host.remsi n d) (broadcastInDim S128 ![] bcast_S_S128 (constantI S_ 32 0#32))))
    (subi q (broadcastInDim S128 ![] bcast_S_S128 (constantI S_ 32 1#32))) q

/-- The level number of every row and lane before the wrap of negative numbers. -/
def sums : IVec S8x128 32 :=
  addi (broadcastInDim S8x128 ![0, 1] bcast_S8x1_S8x128_0_1 (muli (broadcastInDim S8x1 ![] bcast_S_S8x1 (constantI S_ 32 4#32))
      (broadcastInDim S8x1 ![0] bcast_S8_S8x1_0 (iotaInDim S8 32 0))))
    (broadcastInDim S8x128 ![0, 1] bcast_S1x128_S8x128_0_1 (broadcastInDim S1x128 ![1] bcast_S128_S1x128_1 quots))

/-- The level number of every row and lane, as the gather takes it. -/
def levelNo : IVec S8x128 32 :=
  select (cmpi .slt sums (broadcastInDim S8x128 ![] bcast_S_S8x128 (constantI S_ 32 0#32)))
    (addi sums (broadcastInDim S8x128 ![] bcast_S_S8x128 (constantI S_ 32 32#32))) sums

/-- Row `g`, lane `l` names level `4 g + l / 32`. -/
theorem levelNo_apply : ∀ (g : Fin 8) (l : Fin 128), levelNo (ix2 g l) = BitVec.ofNat 32 (4 * g.val + l.val / 32) := by
  decide +kernel

variable (m : (ℓ : Loc nD τ sig) → Buf (Elt Ideal) ℓ)

/-- The cloud numbers reach the kernel as 25 rows of 2000. -/
theorem V_seg (c : Dev nD) : V m c main_v1 = shapeCast S25x1x2000 (m ((c : Thread nD τ).loc main_arg1)) shapeCasts_S50000_S25x1x2000 := by
  unfold V V0 hostOps0 hostOps0_1 hostOps0_2
  simp only [List.flatten_cons, List.flatten_nil, List.append_nil, List.cons_append, List.nil_append]
  after_results_simp
  rfl

/-- The directions reach it four times side by side. -/
theorem V_dir (c : Dev nD) : V m c main_v2 = concatenate S3x128 1 (List.replicate 4 ⟨S3x32, m ((c : Thread nD τ).loc main_arg2)⟩)
    concatenates_S3x32_S3x32_S3x32_S3x32_S3x128_d1 := by
  unfold V V0 hostOps0 hostOps0_1 hostOps0_2
  simp only [List.flatten_cons, List.flatten_nil, List.append_nil, List.cons_append, List.nil_append]
  after_results_simp
  rfl

/-- The levels reach it gathered by the level numbers. -/
theorem V_lev (c : Dev nD) : V m c main_v19 = Host.gather gather_S32_S8x128x1_S8x128_n_0_n_n_0_2_1
    (shapeCast S32 (m ((c : Thread nD τ).loc main_arg3)) shapeCasts_S32x1x1x1_S32) (broadcastInDim S8x128x1 ![0, 1] bcast_S8x128_S8x128x1_0_1 levelNo) := by
  unfold V V0 hostOps0 hostOps0_1 hostOps0_2
  simp only [List.flatten_cons, List.flatten_nil, List.append_nil, List.cons_append, List.nil_append]
  after_results_simp
  rfl

end Cert.KernelIdeal.Value

end
-- ==== Proof.Windows.lean ====
/- What the kernel body reads at grid point `t`, in the program's arguments: the cloud numbers and coordinates of nodes
   `2000 t … 2000 t + 1999`, the directions by lane modulo 32, and the levels `4 g + l / 32`. -/
module

public import proofs.«01_k».proof.Proof.Host

@[expose] public section

noncomputable section

namespace Cert.KernelIdeal.Value

open Cert.KernelIdeal Cert.KernelIdeal.Gen Cert.Ect
open Idealize.ShloMosaic Idealize.ShloMosaic.TcCoe Idealize.SL.Sem Idealize.ShloMosaic.ValueIdx

variable (m : (ℓ : Loc nD τ sig) → Buf (Elt Ideal) ℓ)

/-- The node that row `p` of grid point `t`'s block is. -/
def node (t : Fin cfg0.N) (p : Fin 2000) : Fin 50000 :=
  ⟨2000 * t.val + p.val, by have h : t.val < 25 := Nat.lt_of_lt_of_eq t.isLt N_0; omega⟩

/-- Which block each window takes at a point: the point's own for the cloud numbers and the coordinates, the first for the
    directions and the levels. -/
theorem index_seg : ∀ t : Fin grid0.N, win0_0.index t 0 = t.val ∧ win0_0.index t 1 = 0 ∧ win0_0.index t 2 = 0 := by decide +kernel
theorem index_x : ∀ t : Fin grid0.N, win0_1.index t 0 = t.val ∧ win0_1.index t 1 = 0 := by decide +kernel
theorem index_dir : ∀ t : Fin grid0.N, win0_2.index t 0 = 0 ∧ win0_2.index t 1 = 0 := by decide +kernel
theorem index_lev : ∀ t : Fin grid0.N, win0_3.index t 0 = 0 ∧ win0_3.index t 1 = 0 := by decide +kernel

/-- The cloud number read for row `p`. -/
theorem iblk_seg (c : Dev nD) (t : Fin cfg0.N) (p : Fin 2000) :
    (iblk m c 0 t : Vec Ideal S1x1x2000 .i32) (ix3 0 0 p) = (m ((c : Thread nD τ).loc main_arg1) : S50000.Idx → BitVec 32) (ix1 (node t p)) := by
  unfold iblk
  rw [View.read_apply]
  show (V m c main_v1 : S25x1x2000.Idx → BitVec 32) _ = _
  rw [V_seg]
  refine shapeCast_apply (s := S50000) (t := S25x1x2000) _ _ _ (ix1 (node t p)) ?_
  rw [Shape.rowMajor_val_one, Shape.rowMajor_val_three]
  obtain ⟨h0, h1, h2⟩ := index_seg t
  show 2000 * t.val + p.val = ((win0_0.index t 0 * 1 + 1 * 0) * 1 + (win0_0.index t 1 * 1 + 1 * 0)) * 2000 + (win0_0.index t 2 * 2000 + 1 * p.val)
  rw [h0, h1, h2]; omega

/-- The coordinates read for row `p`. -/
theorem iblk_x (c : Dev nD) (t : Fin cfg0.N) (p : Fin 2000) (k : Fin 3) :
    (iblk m c 1 t : Vec Ideal S2000x3 .f32) (ix2 p k) = (m ((c : Thread nD τ).loc main_arg0) : S50000x3.Idx → EReal) (ix2 (node t p) k) := by
  unfold iblk
  rw [View.read_apply]
  show (V m c main_arg0 : S50000x3.Idx → EReal) _ = _
  rw [V_main_arg0]
  obtain ⟨h0, h1⟩ := index_x t
  refine congrArg (m ((c : Thread nD τ).loc main_arg0) : S50000x3.Idx → EReal) (funext fun a => Fin.ext ?_)
  match a with
  | ⟨0, _⟩ => show win0_1.index t 0 * 2000 + 1 * p.val = 2000 * t.val + p.val; rw [h0]; omega
  | ⟨1, _⟩ => show win0_1.index t 1 * 3 + 1 * k.val = k.val; rw [h1]; omega

/-- The direction read in lane `l`. -/
theorem iblk_dir (c : Dev nD) (t : Fin cfg0.N) (k : Fin 3) (l : Fin 128) (d : Fin 32) (hd : d.val = l.val % 32) :
    (iblk m c 2 t : Vec Ideal S3x128 .f32) (ix2 k l) = (m ((c : Thread nD τ).loc main_arg2) : S3x32.Idx → EReal) (ix2 k d) := by
  unfold iblk
  rw [View.read_apply]
  show (V m c main_v2 : S3x128.Idx → EReal) _ = _
  rw [V_dir]
  obtain ⟨h0, h1⟩ := index_dir t
  refine concatenate_replicate_apply (s₁ := S3x32) (1 : Fin S3x128.rank) 4 _ _ rfl _ (ix2 k d) ?_ ?_
  · show d.val = (win0_2.index t 1 * 128 + 1 * l.val) % 32
    rw [h1, hd]; congr 1; omega
  · intro b hb
    match b with
    | ⟨0, _⟩ => show k.val = win0_2.index t 0 * 3 + 1 * k.val; rw [h0]; omega
    | ⟨1, _⟩ => exact absurd rfl hb

/-- The level read in row `g`, lane `l`. -/
theorem iblk_lev (c : Dev nD) (t : Fin cfg0.N) (g : Fin 8) (l : Fin 128) (s : Fin 32) (hs : s.val = 4 * g.val + l.val / 32) :
    (iblk m c 3 t : Vec Ideal S8x128 .f32) (ix2 g l) = (m ((c : Thread nD τ).loc main_arg3) : S32x1x1x1.Idx → EReal) (ix4 s 0 0 0) := by
  unfold iblk
  rw [View.read_apply]
  show (V m c main_v19 : S8x128.Idx → EReal) _ = _
  rw [V_lev]
  obtain ⟨h0, h1⟩ := index_lev t
  have e : ((cfg0.win 3).blk t).view.emb (ix2 g l) = (ix2 g l : S8x128.Idx) := by
    funext a; apply Fin.ext
    match a with
    | ⟨0, _⟩ => show win0_3.index t 0 * 8 + 1 * g.val = g.val; rw [h0]; omega
    | ⟨1, _⟩ => show win0_3.index t 1 * 128 + 1 * l.val = l.val; rw [h1]; omega
  rw [e]
  refine (gather_take_apply (N := 32) (R := 8) (C := 128) (by decide) gather_S32_S8x128x1_S8x128_n_0_n_n_0_2_1.wf _ _ (ix2 g l)).trans ?_
  refine shapeCast_apply (s := S32x1x1x1) (t := S32) _ _ _ (ix4 s 0 0 0) ?_
  rw [Shape.rowMajor_val_one, Shape.rowMajor_val_four]
  show ((s.val * 1 + 0) * 1 + 0) * 1 + 0 = min (broadcastInDim S8x128x1 ![0, 1] bcast_S8x128_S8x128x1_0_1 levelNo (takeIdx (ix2 g l))).toInt.toNat (32 - 1)
  rw [broadcastInDim_apply _ _ _ (takeIdx (ix2 g l)) (ix2 g l) (fun a => by match a with | ⟨0, _⟩ => rfl | ⟨1, _⟩ => rfl), levelNo_apply, ← hs]
  clear hs e h0 h1
  revert s; decide

end Cert.KernelIdeal.Value

end
-- ==== Proof.Array.lean ====
/- What the kernel's result holds: after the last grid point the output buffer holds every entry's sum over all the blocks,
   which is the transform; it is written back once, and the reshape after the call gives it the result's shape. -/
module

public import proofs.«01_k».proof.Proof.Block
public import proofs.«01_k».proof.Proof.Windows

@[expose] public section

noncomputable section

namespace Cert.KernelIdeal.Value

open Cert.KernelIdeal Cert.KernelIdeal.Gen Cert.Ect
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The transform of a device's arguments. -/
def ectOf (c : Dev nD) (b : Fin 128) (s t : Fin 32) : EReal :=
  ect (m ((c : Thread nD τ).loc main_arg0)) (m ((c : Thread nD τ).loc main_arg1)) (m ((c : Thread nD τ).loc main_arg2)) (m ((c : Thread nD τ).loc main_arg3)) b s t

/-- One node's term of the transform. -/
def termOf (c : Dev nD) (b : Fin 128) (s t : Fin 32) (n : Fin 50000) : EReal :=
  if (m ((c : Thread nD τ).loc main_arg1) : S50000.Idx → BitVec 32) (ix1 n) = BitVec.ofNat 32 b.val then
    bump ((m ((c : Thread nD τ).loc main_arg3) : S32x1x1x1.Idx → EReal) (ix4 s 0 0 0))
      (height (m ((c : Thread nD τ).loc main_arg0)) (m ((c : Thread nD τ).loc main_arg2)) n t) else 0

/-- A grid point's share of column `32 s + t` is the sum of its own nodes' terms at level `s` and direction `t`. -/
theorem share_iblk (c : Dev nD) (i : Fin cfg0.N) (b : Fin 128) (s t : Fin 32) (q : Fin 1024) (hq : q.val = 32 * s.val + t.val) :
    share (iblk m c 0 i) (iblk m c 1 i) (iblk m c 2 i) (iblk m c 3 i) b q = ∑ p : Fin 2000, termOf m c b s t (node i p) := by
  unfold share termOf
  refine Finset.sum_congr rfl fun p _ => ?_
  rw [iblk_seg m c i p, iblk_lev m c i ⟨q.val / 128, by omega⟩ ⟨q.val % 128, by omega⟩ s (by
    show s.val = 4 * (q.val / 128) + q.val % 128 / 32; omega)]
  have hh : height (iblk m c 1 i : Vec Ideal S2000x3 .f32) (iblk m c 2 i : Vec Ideal S3x128 .f32) p ⟨q.val % 128, by omega⟩
      = height (m ((c : Thread nD τ).loc main_arg0)) (m ((c : Thread nD τ).loc main_arg2)) (node i p) t := by
    unfold height
    refine Finset.sum_congr rfl fun k _ => ?_
    rw [iblk_x m c i p k, iblk_dir m c i k ⟨q.val % 128, by omega⟩ t (by show t.val = q.val % 128 % 32; omega)]
  exact if_congr Iff.rfl (congrArg (bump _) hh) rfl

/-- After point `n` the output buffer holds the shares of the points up to it, summed. -/
theorem outsAt_apply (c : Dev nD) (b : Fin 128) (q : Fin 1024) : ∀ (n : Nat) (h : n < cfg0.N),
    (outsAt0 m c n h (ix2 b q) : EReal) = ∑ i : Fin (n + 1),
      share (iblk m c 0 ⟨i.val, by omega⟩) (iblk m c 1 ⟨i.val, by omega⟩) (iblk m c 2 ⟨i.val, by omega⟩) (iblk m c 3 ⟨i.val, by omega⟩) b q
  | 0, h => by
    rw [outsAt0_A m c ⟨0, h⟩ rfl, out_A, Fin.sum_univ_one]
    exact zero_add _
  | n + 1, h => by
    have hN : cfg0.N = 25 := N_0
    rw [outsAt0_B m c ⟨n + 1, h⟩ (by show ¬(n + 1) % 25 = 0; omega), out_B, Fin.sum_univ_castSucc]
    exact congrArg (· + _) (outsAt_apply c b q n (Nat.lt_of_succ_lt h))

/-- The last grid point. -/
abbrev last : Fin cfg0.N := ⟨24, by rw [show cfg0.N = 25 from N_0]; decide⟩

/-- After the last point the buffer holds the transform, entry `(b, s, t)` in column `32 s + t`. -/
theorem outsAt_last (c : Dev nD) (b : Fin 128) (s t : Fin 32) (q : Fin 1024) (hq : q.val = 32 * s.val + t.val) :
    (outsAt0 m c 24 last.isLt (ix2 b q) : EReal) = ectOf m c b s t := by
  rw [outsAt_apply]
  show _ = ∑ n : Fin 50000, termOf m c b s t n
  refine Eq.trans (Finset.sum_congr rfl fun i _ => share_iblk m c _ b s t q hq) ?_
  rw [← Fintype.sum_prod_type']
  refine Fintype.sum_equiv (finProdFinEquiv (m := 25) (n := 2000)) _ _ fun ip => congrArg (termOf m c b s t) (Fin.ext ?_)
  show 2000 * ip.1.val + ip.2.val = ip.2.val + 2000 * ip.1.val
  omega

/-- The output's block at the last point starts at the array's first entry. -/
theorem start_last : (fun a => win0_4.index last a * main_v20.ty.shape.size a) = fun _ => 0 :=
  funext (by decide +kernel : ∀ a : Fin 2, win0_4.index last a * main_v20.ty.shape.size a = 0)

/-- The flat [128, 1024] result: the buffer after the last point. -/
abbrev flat (c : Dev nD) : Buf (Elt Ideal) ((c : Thread nD τ).loc main_v20) := outsAt0 m c 24 last.isLt

/-- The array the call returns ends as the flat result: the last point alone writes the buffer back, and its block is the
    whole array. -/
theorem final_flat (c : Dev nD) : (dats m 0 c).arrAt 4 cfg0.N = flat m c := by
  have inb : ∀ a, win0_4.index last a * main_v20.ty.shape.size a + main_v20.ty.shape.size a ≤ main_v20.ty.shape.size a := fun a => by
    have := congrFun start_last a
    omega
  refine (dats m 0 c).arrAt_eq_of_cover 4 (flat m c) (fun t hf => ?_) fun i => ⟨last, (flush0_4 last).mpr rfl, ?_⟩
  · have hN : cfg0.N = 25 := N_0
    have h24 := (flush0_4 t).mp hf
    have e : t = last := Fin.ext (by show t.val = 24; omega)
    subst e
    refine Eq.trans ?_ (Memref.read_access_unit_zero (Elt Ideal) main_v20 start_last inb (flat m c)).symm
    exact after0_4 m c last
  · show i ∈ ((View.whole main_v20).slice (win0_4.rect last)).set
    rw [View.set_slice_whole]
    exact View.mem_set_unit_zero (S := S128x1024) start_last inb i

/-- The program's result: the transform at every entry. -/
def result (c : Dev nD) : Buf (Elt Ideal) ((c : Thread nD τ).loc main_v21) :=
  fun j : S128x1x32x32.Idx => ectOf m c (j 0) (j 2) (j 3)

/-- The reshape after the call leaves the transform in the program's result. -/
theorem tail_eq (c : Dev nD) : Pipeline.afterTail₀ cfgs (dats m) 0 (V0 m) [hostOps1] c main_v21 = result m c := by
  unfold Pipeline.afterTail₀
  simp only [hostOps1, List.flatten_cons, List.flatten_nil, List.append_nil]
  after_results_simp
  have hv : (Pipeline.withArrays (cfgs 0).spec c (V0 m c) (fun w => (dats m 0 c).arrAt w (cfgs 0).N) (Proc.devRef .tc main_v20) : S128x1024.Idx → EReal)
      = flat m c :=
    (Pipeline.withArrays_arr spec0 (by decide) c (V0 m c) (fun w => (dats m 0 c).arrAt w (cfgs 0).N) 4).trans (final_flat m c)
  show shapeCast S128x1x32x32 (Pipeline.withArrays (cfgs 0).spec c (V0 m c) (fun w => (dats m 0 c).arrAt w (cfgs 0).N) (Proc.devRef .tc main_v20) : S128x1024.Idx → EReal)
    shapeCasts_S128x1024_S128x1x32x32 = _
  rw [hv]
  funext j
  obtain ⟨b, u, s, t, rfl⟩ : ∃ (b : Fin 128) (u : Fin 1) (s t : Fin 32), j = ix4 b u s t := ⟨j 0, j 1, j 2, j 3, eq_ix4 j⟩
  rw [shapeCast_apply _ _ _ (ix2 b (⟨32 * s.val + t.val, by omega⟩ : Fin 1024)) (by
    rw [Shape.rowMajor_val_two, Shape.rowMajor_val_four]
    show b.val * 1024 + (32 * s.val + t.val) = ((b.val * 1 + u.val) * 32 + s.val) * 32 + t.val
    have := u.isLt; omega)]
  exact outsAt_last m c b s t _ rfl

/-- The run, read: the result holds the transform and the arguments are unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    refine ⟨((h c).2 main_v21 (Pipeline.mem_restRefs_of main_v21 (by decide) (by decide))).trans (tail_eq m c),
      ((h c).1 1).trans (((dats m 0 c).arrAt_in 1 rfl _).trans ((A_eq m c 1).trans (V_main_arg0 m c))), ?_, ?_, ?_⟩
    · exact ((h c).2 main_arg1 (Pipeline.mem_restRefs_of main_arg1 (by decide) (by decide))).trans (W_main_arg1 m (dats m) c)
    · exact ((h c).2 main_arg2 (Pipeline.mem_restRefs_of main_arg2 (by decide) (by decide))).trans (W_main_arg2 m (dats m) c)
    · exact ((h c).2 main_arg3 (Pipeline.mem_restRefs_of main_arg3 (by decide) (by decide))).trans (W_main_arg3 m (dats m) c))
    (run_main m ρ)

end Cert.KernelIdeal.Value

end
-- ==== Proof.Reference.lean ====
/- What the reference computes: the bumps of all nodes at all levels and directions, added by a scatter into the entry of each
   node's cloud — the transform, entry by entry. -/
module

public import proofs.«01_k».proof.Proof.Spec
public import proofs.«01_k».proof.Proof.Gen.ReferenceIdeal.Run
public import Idealize.ShloMosaic.Lib.Pipeline.Value
public import Idealize.ShloMosaic.Lib.IdealHost
public import Idealize.ShloMosaic.Lib.Routing.OpsPair
public import Idealize.ShloMosaic.Lib.Quiescent

@[expose] public section

noncomputable section

namespace Cert.ReferenceIdeal.Value

open Cert.ReferenceIdeal Cert.ReferenceIdeal.Gen Cert.Ect
open Idealize.ShloMosaic Idealize.ShloMosaic.TcCoe Idealize.SL.Sem Idealize.ShloMosaic.ValueIdx

/-- The product of the coordinates with the directions is the heights. -/
theorem dot_apply (x : Vec Ideal S50000x3 .f32) (v : Vec Ideal S3x32 .f32) (n : Fin 50000) (t : Fin 32) :
    (Host.dotGeneral (φ₁ := .f32) (φ₂ := .f32) dot_S50000x3_S3x32_S50000x32_1_0_0_1_n_n none x v : FVec Ideal S50000x32 .f32) (ix2 n t) = height x v n t := by
  show Ideal.matmul dot_S50000x3_S3x32_S50000x32_1_0_0_1_n_n x v (fun _ => 0) (ix2 n t) = _
  unfold Ideal.matmul height
  rw [← Equiv.sum_comp (contrEquiv1 dot_S50000x3_S3x32_S50000x32_1_0_0_1_n_n 3 rfl rfl).symm, zero_add]
  refine Finset.sum_congr rfl fun k _ => ?_
  have hk := contrEquiv1_symm_val dot_S50000x3_S3x32_S50000x32_1_0_0_1_n_n 3 rfl rfl k
  congr 1
  · refine congrArg x (funext fun a => Fin.ext ?_)
    match a with
    | ⟨0, _⟩ => rfl
    | ⟨1, _⟩ => exact hk
  · refine congrArg v (funext fun a => Fin.ext ?_)
    match a with
    | ⟨0, _⟩ => exact hk
    | ⟨1, _⟩ => rfl

/-- The bumps of all nodes, `[level, 1, node, direction]`, from the heights. -/
def bumps (lin : Vec Ideal S32x1x1x1 .f32) (nh : FVec Ideal S50000x32 .f32) : FVec Ideal S32x1x50000x32 .f32 :=
  Host.divf (broadcastInDim S32x1x50000x32 ![] bcast_S_S32x1x50000x32 (constant S_ .f32 0x3F800000#32))
    (addf (broadcastInDim S32x1x50000x32 ![] bcast_S_S32x1x50000x32 (constant S_ .f32 0x3F800000#32))
      (Host.exp (Host.negf (mulf (broadcastInDim S32x1x50000x32 ![] bcast_S_S32x1x50000x32 (constant S_ .f32 0x42C80000#32))
        (subf (broadcastInDim S32x1x50000x32 ![0, 1, 2, 3] bcast_S32x1x1x1_S32x1x50000x32_0_1_2_3 lin)
          (broadcastInDim S32x1x50000x32 ![0, 1, 2, 3] bcast_S1x1x50000x32_S32x1x50000x32_0_1_2_3
            (broadcastInDim S1x1x50000x32 ![2, 3] bcast_S50000x32_S1x1x50000x32_2_3 nh)))))))

/-- At level `s`, node `n`, direction `t` they are the bump of the node's height. -/
theorem bumps_apply (lin : Vec Ideal S32x1x1x1 .f32) (nh : FVec Ideal S50000x32 .f32) (s : Fin 32) (u : Fin 1) (n : Fin 50000) (t : Fin 32) :
    bumps lin nh (ix4 s u n t) = bump (lin (ix4 s 0 0 0)) (nh (ix2 n t)) := by
  unfold bumps
  have el : broadcastInDim S32x1x50000x32 ![0, 1, 2, 3] bcast_S32x1x1x1_S32x1x50000x32_0_1_2_3 lin (ix4 s u n t) = lin (ix4 s 0 0 0) :=
    broadcastInDim_apply _ _ _ _ (ix4 s 0 0 0) fun a => by
      match a with
      | ⟨0, _⟩ => rfl
      | ⟨1, _⟩ => rfl
      | ⟨2, _⟩ => rfl
      | ⟨3, _⟩ => rfl
  have eh : broadcastInDim S32x1x50000x32 ![0, 1, 2, 3] bcast_S1x1x50000x32_S32x1x50000x32_0_1_2_3
      (broadcastInDim S1x1x50000x32 ![2, 3] bcast_S50000x32_S1x1x50000x32_2_3 nh) (ix4 s u n t) = nh (ix2 n t) :=
    (broadcastInDim_apply _ _ _ _ (ix4 0 0 n t) fun a => by
      match a with
      | ⟨0, _⟩ => rfl
      | ⟨1, _⟩ => rfl
      | ⟨2, _⟩ => rfl
      | ⟨3, _⟩ => rfl).trans (broadcastInDim_apply _ _ _ _ (ix2 n t) fun a => by
      match a with
      | ⟨0, _⟩ => rfl
      | ⟨1, _⟩ => rfl)
  show Ideal.div (Ideal.ofBits .f32 0x3F800000#32) (Ideal.ofBits .f32 0x3F800000#32 + Ideal.exp (-(Ideal.ofBits .f32 0x42C80000#32
    * (broadcastInDim S32x1x50000x32 ![0, 1, 2, 3] bcast_S32x1x1x1_S32x1x50000x32_0_1_2_3 lin (ix4 s u n t)
      - broadcastInDim S32x1x50000x32 ![0, 1, 2, 3] bcast_S1x1x50000x32_S32x1x50000x32_0_1_2_3
        (broadcastInDim S1x1x50000x32 ![2, 3] bcast_S50000x32_S1x1x50000x32_2_3 nh) (ix4 s u n t))))) = _
  rw [el, eh, Ideal.ofBits_one_f32]
  rfl

/-- The bumps as the scatter's updates, `[node, 1, level, direction]`. -/
def updates (e : FVec Ideal S32x1x50000x32 .f32) : FVec Ideal S50000x1x32x32 .f32 :=
  transpose S50000x1x32x32 [1, 0, 2, 3] (transpose S1x50000x32x32 [1, 2, 0, 3] e transposes_S32x1x50000x32_S1x50000x32x32_1_2_0_3)
    transposes_S1x50000x32x32_S50000x1x32x32_1_0_2_3

theorem updates_apply (e : FVec Ideal S32x1x50000x32 .f32) (n : Fin 50000) (u : Fin 1) (s t : Fin 32) :
    updates e (ix4 n u s t) = e (ix4 s u n t) := by
  unfold updates
  rw [transpose_apply _ _ _ (ix4 n u s t) (ix4 u n s t) (fun b => by
      match b with
      | ⟨0, _⟩ => rfl
      | ⟨1, _⟩ => rfl
      | ⟨2, _⟩ => rfl
      | ⟨3, _⟩ => rfl),
    transpose_apply _ _ _ (ix4 u n s t) (ix4 s u n t) (fun b => by
      match b with
      | ⟨0, _⟩ => rfl
      | ⟨1, _⟩ => rfl
      | ⟨2, _⟩ => rfl
      | ⟨3, _⟩ => rfl)]

/-- A word below 128 read signed is its number, and no other word reads so. -/
theorem toInt_eq_iff (w : BitVec 32) (b : Fin 128) : w.toInt = (b.val : Int) ↔ w = BitVec.ofNat 32 b.val := by
  have hb : (BitVec.ofNat 32 b.val).toInt = (b.val : Int) := by revert b; decide
  rw [← hb, BitVec.toInt_inj]

/-- Update `(n, u, s, t)` lands at `(b, u', s', t')` exactly when node `n`'s cloud number is `b` and the other coordinates
    agree. -/
theorem lands (seg : IVec S50000 32) (n : Fin 50000) (u u' : Fin 1) (s s' t t' : Fin 32) (b : Fin 128) :
    scatter_S128x1x32x32_S50000x1_S50000x1x32x32_123_0_0_1.resultIdx? (ix4 n u s t) (broadcastInDim S50000x1 ![0] bcast_S50000_S50000x1_0 seg)
      = some (ix4 b u' s' t') ↔ seg (ix1 n) = BitVec.ofNat 32 b.val ∧ s = s' ∧ t = t' := by
  rw [Routing.resultIdx?_eq_some]
  have h0 : scatter_S128x1x32x32_S50000x1_S50000x1x32x32_123_0_0_1.start (ix4 n u s t) (broadcastInDim S50000x1 ![0] bcast_S50000_S50000x1_0 seg) 0
      = (seg (ix1 n)).toInt := by
    unfold ScatterDims.start
    rw [dif_pos (by decide)]
    refine congrArg BitVec.toInt ?_
    refine broadcastInDim_apply _ _ _ _ (ix1 n) fun a => ?_
    match a with
    | ⟨0, _⟩ => rfl
  have hs : ∀ a : Fin 4, a ≠ 0 → scatter_S128x1x32x32_S50000x1_S50000x1x32x32_123_0_0_1.start (ix4 n u s t)
      (broadcastInDim S50000x1 ![0] bcast_S50000_S50000x1_0 seg) a = 0 := fun a ha => by
    unfold ScatterDims.start
    exact dif_neg fun h => ha (List.mem_singleton.mp h)
  have w0 : scatter_S128x1x32x32_S50000x1_S50000x1x32x32_123_0_0_1.window (ix4 n u s t) 0 = 0 := rfl
  have w1 : scatter_S128x1x32x32_S50000x1_S50000x1x32x32_123_0_0_1.window (ix4 n u s t) 1 = u.val := rfl
  have w2 : scatter_S128x1x32x32_S50000x1_S50000x1x32x32_123_0_0_1.window (ix4 n u s t) 2 = s.val := rfl
  have w3 : scatter_S128x1x32x32_S50000x1_S50000x1x32x32_123_0_0_1.window (ix4 n u s t) 3 = t.val := rfl
  rw [← toInt_eq_iff]
  constructor
  · intro h
    have a0 := h 0
    have a2 := h 2
    have a3 := h 3
    rw [h0, w0] at a0
    rw [hs 2 (by decide), w2] at a2
    rw [hs 3 (by decide), w3] at a3
    change (seg (ix1 n)).toInt + ((0 : Nat) : Int) = (b.val : Int) at a0
    change (0 : Int) + (s.val : Int) = (s'.val : Int) at a2
    change (0 : Int) + (t.val : Int) = (t'.val : Int) at a3
    exact ⟨by omega, Fin.ext (by omega), Fin.ext (by omega)⟩
  · rintro ⟨h, rfl, rfl⟩ a
    match a with
    | ⟨0, _⟩ => exact (congrArg₂ (fun (p : Int) (q : Nat) => p + (q : Int)) (h0.trans h) w0).trans (Int.add_zero _)
    | ⟨1, _⟩ => exact (congrArg₂ (fun (p : Int) (q : Nat) => p + (q : Int)) (hs 1 (by decide)) w1).trans (by
        show (0 : Int) + (u.val : Int) = (u'.val : Int); omega)
    | ⟨2, _⟩ => exact (congrArg₂ (fun (p : Int) (q : Nat) => p + (q : Int)) (hs 2 (by decide)) w2).trans (Int.zero_add _)
    | ⟨3, _⟩ => exact (congrArg₂ (fun (p : Int) (q : Nat) => p + (q : Int)) (hs 3 (by decide)) w3).trans (Int.zero_add _)

/-- The scatter of any updates over zero: entry `(b, u, s, t)` sums the updates of the nodes of cloud `b` at `(s, t)`. -/
theorem scatter_apply (seg : IVec S50000 32) (upd : FVec Ideal S50000x1x32x32 .f32) (b : Fin 128) (u : Fin 1) (s t : Fin 32) :
    (Host.scatterAdd scatter_S128x1x32x32_S50000x1_S50000x1x32x32_123_0_0_1 (broadcastInDim S128x1x32x32 ![] bcast_S_S128x1x32x32 (constant S_ .f32 0x00000000#32))
      (broadcastInDim S50000x1 ![0] bcast_S50000_S50000x1_0 seg) upd : FVec Ideal S128x1x32x32 .f32) (ix4 b u s t)
      = ∑ n : Fin 50000, if seg (ix1 n) = BitVec.ofNat 32 b.val then (upd (ix4 n 0 s t) : EReal) else 0 := by
  show Ideal.hostScatterAdd _ _ _ _ _ = _
  unfold Ideal.hostScatterAdd
  rw [show broadcastInDim S128x1x32x32 ![] bcast_S_S128x1x32x32 (constant (F := Ideal) S_ .f32 0x00000000#32) (ix4 b u s t) = (0 : EReal) from Ideal.ofBits_zero_f32,
    zero_add, ← Finset.sum_filter]
  have split : ∀ j : S50000x1x32x32.Idx, ∃ (n : Fin 50000) (s' t' : Fin 32), j = ix4 n 0 s' t' := fun j =>
    ⟨j 0, j 2, j 3, (eq_ix4 j).trans (congrArg (fun u : Fin 1 => ix4 (j 0) u (j 2) (j 3)) (Subsingleton.elim (α := Fin 1) (j 1) 0))⟩
  refine Finset.sum_nbij' (fun j : S50000x1x32x32.Idx => (j 0 : Fin 50000)) (fun n => ix4 n 0 s t) ?_ ?_ ?_ ?_ ?_
  · intro j hj
    obtain ⟨n, s', t', rfl⟩ := split j
    exact Finset.mem_filter.mpr ⟨Finset.mem_univ _, ((lands seg n 0 u s' s t' t b).mp (Finset.mem_filter.mp hj).2).1⟩
  · intro n hn
    exact Finset.mem_filter.mpr ⟨Finset.mem_univ _, (lands seg n 0 u s s t t b).mpr ⟨(Finset.mem_filter.mp hn).2, rfl, rfl⟩⟩
  · intro j hj
    obtain ⟨n, s', t', rfl⟩ := split j
    obtain ⟨_, rfl, rfl⟩ := (lands seg n 0 u s' s t' t b).mp (Finset.mem_filter.mp hj).2
    rfl
  · intro n _
    rfl
  · intro j hj
    obtain ⟨n, s', t', rfl⟩ := split j
    obtain ⟨_, rfl, rfl⟩ := (lands seg n 0 u s' s t' t b).mp (Finset.mem_filter.mp hj).2
    rfl

/-- The reference's result as an array: the transform at every entry. -/
theorem result_eq (x : Vec Ideal S50000x3 .f32) (seg : Vec Ideal S50000 .i32) (v : Vec Ideal S3x32 .f32) (lin : Vec Ideal S32x1x1x1 .f32) :
    (Host.scatterAdd scatter_S128x1x32x32_S50000x1_S50000x1x32x32_123_0_0_1 (broadcastInDim S128x1x32x32 ![] bcast_S_S128x1x32x32 (constant S_ .f32 0x00000000#32))
      (broadcastInDim S50000x1 ![0] bcast_S50000_S50000x1_0 seg)
      (updates (bumps lin (Host.dotGeneral (φ₁ := .f32) (φ₂ := .f32) dot_S50000x3_S3x32_S50000x32_1_0_0_1_n_n none x v))) : FVec Ideal S128x1x32x32 .f32)
      = fun j => ect x seg v lin (j 0) (j 2) (j 3) := by
  funext j
  obtain ⟨b, u, s, t, rfl⟩ : ∃ (b : Fin 128) (u : Fin 1) (s t : Fin 32), j = ix4 b u s t := ⟨j 0, j 1, j 2, j 3, eq_ix4 j⟩
  rw [scatter_apply]
  show _ = ect x seg v lin b s t
  unfold ect
  refine Finset.sum_congr rfl fun n _ => if_congr Iff.rfl ?_ rfl
  rw [updates_apply, bumps_apply, dot_apply]

variable (m : (ℓ : Loc nD τ sig) → Buf (Elt Ideal) ℓ) (ρ : Dev nD → PrngReg)

/-- The run, read: the result holds the transform and the arguments are unchanged. -/
theorem run_ect : θ_run defs (onTc (τ := τ) (main (F := Ideal))) ⟨m, fun _ => 0, ρ⟩ fun r => ∀ c : Dev nD,
      r.2.mem ((c : Thread nD τ).loc main_v17) = (fun j : S128x1x32x32.Idx => ect (m ((c : Thread nD τ).loc main_arg0)) (m ((c : Thread nD τ).loc main_arg1))
        (m ((c : Thread nD τ).loc main_arg2)) (m ((c : Thread nD τ).loc main_arg3)) (j 0) (j 2) (j 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result_eq _ _ _ _), (h c).2⟩) (run m ρ)

/-- The reference leaves its arguments unchanged and every counter at zero: it has none. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨fun c => (h c).2, sem_eq_zero_of_no_sems (by decide) r.2⟩) (run m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- From memories that agree on the arguments, both programs end with the transform of the kernel's arguments. -/
theorem algebraic : algebraic_KernelIdeal_ReferenceIdeal (hKernelIdeal := Cert.KernelIdeal.Gen.facts) (hReferenceIdeal := Cert.ReferenceIdeal.Gen.facts) := by
  intro m g m' g' _ hagree
  refine ⟨Cert.KernelIdeal.Value.result m, Cert.KernelIdeal.Value.run m g, ?_⟩
  refine (θ_run _ _ _).mono (fun r h c => ⟨(h c).1.trans ?_, (h c).2⟩) (Cert.ReferenceIdeal.Value.run_ect m' g')
  obtain ⟨h0, h1, h2, h3⟩ := hagree c
  rw [h0, h1, h2, h3]
  rfl

/-- Every claim, the programs' own side conditions included. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Value.frame m g,
  trivial, algebraic⟩

end Cert.Proof

end
